-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routing_defined [hPre_routing_defined : Cert.Pre_routing_defined.Facts] (m : (ℓ : Loc Cert.KernelIdeal.nD Cert.KernelIdeal.τ Cert.KernelIdeal.sig) → Buf (Elt Ideal) ℓ) : Prop :=
  ∀ c : Dev Cert.KernelIdeal.nD,
    (Cert.Pre_routing_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routing_defined [hPre_routing_defined : Cert.Pre_routing_defined.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routing_defined.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_routing_defined [hKernelIdeal : Cert.KernelIdeal.Facts] [hPre_routing_defined : Cert.Pre_routing_defined.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routing_defined m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_routing_defined [hReferenceIdeal : Cert.ReferenceIdeal.Facts] [hPre_routing_defined : Cert.Pre_routing_defined.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routing_defined m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_routing_defined [hKernelIdeal : Cert.KernelIdeal.Facts] [hReferenceIdeal : Cert.ReferenceIdeal.Facts] [hPre_routing_defined : Cert.Pre_routing_defined.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routing_defined m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_routing_defined : Cert.Pre_routing_defined.Facts),
    quiescent_Kernel (hKernel := hKernel)
    ∧ quiescent_KernelIdeal (hKernelIdeal := hKernelIdeal)
    ∧ quiescent_KernelIdeal_pre_routing_defined (hKernelIdeal := hKernelIdeal) (hPre_routing_defined := hPre_routing_defined)
    ∧ quiescent_ReferenceIdeal (hReferenceIdeal := hReferenceIdeal)
    ∧ quiescent_ReferenceIdeal_pre_routing_defined (hReferenceIdeal := hReferenceIdeal) (hPre_routing_defined := hPre_routing_defined)
    ∧ preserves_Kernel_KernelIdeal
    ∧ algebraic_KernelIdeal_ReferenceIdeal_pre_routing_defined (hKernelIdeal := hKernelIdeal) (hReferenceIdeal := hReferenceIdeal) (hPre_routing_defined := hPre_routing_defined)
-- ==== Pre_routing_defined.lean ====
abbrev S8192x2048 : Shape := ⟨2, ![8192, 2048]⟩
abbrev S2048x64 : Shape := ⟨2, ![2048, 64]⟩
abbrev S64 : Shape := ⟨1, ![64]⟩
abbrev S64x16 : Shape := ⟨2, ![64, 16]⟩
abbrev S16 : Shape := ⟨1, ![16]⟩
abbrev S16x2048x2 : Shape := ⟨3, ![16, 2048, 2]⟩
abbrev S16x2 : Shape := ⟨2, ![16, 2]⟩
abbrev S8192x64 : Shape := ⟨2, ![8192, 64]⟩
abbrev S1x64 : Shape := ⟨2, ![1, 64]⟩
abbrev S_ : Shape := ⟨0, ![]⟩
abbrev S8192x16 : Shape := ⟨2, ![8192, 16]⟩
abbrev S1x16 : Shape := ⟨2, ![1, 16]⟩
abbrev S8192 : Shape := ⟨1, ![8192]⟩

class Facts : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  reducesTo_S8192x16_S8192_d1 : S8192x16.ReducesTo [1] S8192
  h_S_ : 0 < S_.numel
  bcast_S_S8192 : S_.BroadcastsInDim S8192 (![] : Fin 0 → Fin S8192.rank)
  dot_S8192x2048_S2048x64_S8192x64_1_0_0_1_n_n_wf : DotDims.WF S8192x2048 S2048x64 S8192x64 [1] [0] [0] [1] [] []
  dot_S8192x64_S64x16_S8192x16_1_0_0_1_n_n_wf : DotDims.WF S8192x64 S64x16 S8192x16 [1] [0] [0] [1] [] []

variable [Facts]

def dot_S8192x2048_S2048x64_S8192x64_1_0_0_1_n_n : DotDims S8192x2048 S2048x64 S8192x64 where
  lhsContracting := [1]
  rhsContracting := [0]
  lhsNonContracting := [0]
  rhsNonContracting := [1]
  lhsBatch := []
  rhsBatch := []
  wf := dot_S8192x2048_S2048x64_S8192x64_1_0_0_1_n_n_wf
def dot_S8192x64_S64x16_S8192x16_1_0_0_1_n_n : DotDims S8192x64 S64x16 S8192x16 where
  lhsContracting := [1]
  rhsContracting := [0]
  lhsNonContracting := [0]
  rhsNonContracting := [1]
  lhsBatch := []
  rhsBatch := []
  wf := dot_S8192x64_S64x16_S8192x16_1_0_0_1_n_n_wf
def fn {F : FTy → Type} [FloatOps F] (main_arg0 : FVec F S8192x2048 .f32) (main_arg1 : FVec F S2048x64 .f32) (main_arg2 : FVec F S64 .f32) (main_arg3 : FVec F S64x16 .f32) (main_arg4 : FVec F S16 .f32) (main_arg5 : FVec F S16x2048x2 .f32) (main_arg6 : FVec F S16x2 .f32) : IVec S8192 1 :=
  let main_v0 : FVec F S8192x64 .f32 := (fun l r => Host.dotGeneral dot_S8192x2048_S2048x64_S8192x64_1_0_0_1_n_n none l r) main_arg0 main_arg1
  let main_v1 : FVec F S1x64 .f32 := broadcastInDim S1x64 ![1] bcast_S64_S1x64_1 main_arg2
  let main_v2 : FVec F S8192x64 .f32 := broadcastInDim S8192x64 ![0, 1] bcast_S1x64_S8192x64_0_1 main_v1
  let main_v3 : FVec F S8192x64 .f32 := addf main_v0 main_v2
  let main_cst : FVec F S_ .f32 := constant S_ .f32 0x00000000#32
  let main_v4 : FVec F S8192x64 .f32 := broadcastInDim S8192x64 ![] bcast_S_S8192x64 main_cst
  let main_v5 : FVec F S8192x64 .f32 := maximumf main_v3 main_v4
  let main_v6 : FVec F S8192x16 .f32 := (fun l r => Host.dotGeneral dot_S8192x64_S64x16_S8192x16_1_0_0_1_n_n none l r) main_v5 main_arg3
  let main_v7 : FVec F S1x16 .f32 := broadcastInDim S1x16 ![1] bcast_S16_S1x16_1 main_arg4
  let main_v8 : FVec F S8192x16 .f32 := broadcastInDim S8192x16 ![0, 1] bcast_S1x16_S8192x16_0_1 main_v7
  let main_v9 : FVec F S8192x16 .f32 := addf main_v6 main_v8
  let main_cst_0 : FVec F S_ .f32 := constant S_ .f32 0xFF800000#32
  let main_v10 : FVec F S8192 .f32 := (fun x v => Host.reduce FloatOps.maximumf x v reducesTo_S8192x16_S8192_d1 h_S_) main_v9 main_cst_0
  let main_cst_1 : FVec F S_ .f32 := constant S_ .f32 0xFF800000#32
  let main_v11 : FVec F S8192 .f32 := broadcastInDim S8192 ![] bcast_S_S8192 main_cst_1
  let main_v12 : IVec S8192 1 := cmpf .ogt main_v10 main_v11
  let main_cst_2 : FVec F S_ .f32 := constant S_ .f32 0x7F800000#32
  let main_v13 : FVec F S8192 .f32 := broadcastInDim S8192 ![] bcast_S_S8192 main_cst_2
  let main_v14 : IVec S8192 1 := cmpf .olt main_v10 main_v13
  let main_v15 : IVec S8192 1 := andi main_v12 main_v14
  main_v15
-- ==== Kernel.lean ====
abbrev S8192x2048 : Shape := ⟨2, ![8192, 2048]⟩
abbrev S2048x64 : Shape := ⟨2, ![2048, 64]⟩
abbrev S64 : Shape := ⟨1, ![64]⟩
abbrev S64x16 : Shape := ⟨2, ![64, 16]⟩
abbrev S16 : Shape := ⟨1, ![16]⟩
abbrev S16x2048x2 : Shape := ⟨3, ![16, 2048, 2]⟩
abbrev S16x2 : Shape := ⟨2, ![16, 2]⟩
abbrev S8192x16 : Shape := ⟨2, ![8192, 16]⟩
abbrev S64x2048 : Shape := ⟨2, ![64, 2048]⟩
abbrev S16x64 : Shape := ⟨2, ![16, 64]⟩
abbrev S2x16 : Shape := ⟨2, ![2, 16]⟩
abbrev S16x2x2048 : Shape := ⟨3, ![16, 2, 2048]⟩
abbrev S32x2048 : Shape := ⟨2, ![32, 2048]⟩
abbrev S1x64 : Shape := ⟨2, ![1, 64]⟩
abbrev S1x16 : Shape := ⟨2, ![1, 16]⟩
abbrev S2x8192 : Shape := ⟨2, ![2, 8192]⟩
abbrev S1024x2048 : Shape := ⟨2, ![1024, 2048]⟩
abbrev S1024x16 : Shape := ⟨2, ![1024, 16]⟩
abbrev S2x1024 : Shape := ⟨2, ![2, 1024]⟩
abbrev S1024x64 : Shape := ⟨2, ![1024, 64]⟩
abbrev S16x1024 : Shape := ⟨2, ![16, 1024]⟩
abbrev S1024 : Shape := ⟨1, ![1024]⟩
abbrev S1x1024 : Shape := ⟨2, ![1, 1024]⟩
abbrev S1024x32 : Shape := ⟨2, ![1024, 32]⟩
abbrev S32x32 : Shape := ⟨2, ![32, 32]⟩
abbrev S32x1024 : Shape := ⟨2, ![32, 1024]⟩
abbrev S8192x2 : Shape := ⟨2, ![8192, 2]⟩

abbrev nBuf : Space → Nat
  | .hbm => 17
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048x64, .f32⟩
  | .hbm, ⟨2, _⟩ => ⟨S64, .f32⟩
  | .hbm, ⟨3, _⟩ => ⟨S64x16, .f32⟩
  | .hbm, ⟨4, _⟩ => ⟨S16, .f32⟩
  | .hbm, ⟨5, _⟩ => ⟨S16x2048x2, .f32⟩
  | .hbm, ⟨6, _⟩ => ⟨S16x2, .f32⟩
  | .hbm, ⟨7, _⟩ => ⟨S8192x16, .f32⟩
  | .hbm, ⟨8, _⟩ => ⟨S64x2048, .f32⟩
  | .hbm, ⟨9, _⟩ => ⟨S16x64, .f32⟩
  | .hbm, ⟨10, _⟩ => ⟨S2x16, .f32⟩
  | .hbm, ⟨11, _⟩ => ⟨S16x2x2048, .f32⟩
  | .hbm, ⟨12, _⟩ => ⟨S32x2048, .f32⟩
  | .hbm, ⟨13, _⟩ => ⟨S1x64, .f32⟩
  | .hbm, ⟨14, _⟩ => ⟨S1x16, .f32⟩
  | .hbm, ⟨15, _⟩ => ⟨S2x8192, .f32⟩
  | .hbm, ⟨16, _⟩ => ⟨S8192x2, .f32⟩
  | .local _ .vmem, ⟨0, _⟩ => ⟨S1024x2048, .f32⟩
  | .local _ .vmem, ⟨1, _⟩ => ⟨S1024x2048, .f32⟩
  | .local _ .vmem, ⟨2, _⟩ => ⟨S64x2048, .f32⟩
  | .local _ .vmem, ⟨3, _⟩ => ⟨S32x2048, .f32⟩
  | .local _ .vmem, ⟨4, _⟩ => ⟨S16x64, .f32⟩
  | .local _ .vmem, ⟨5, _⟩ => ⟨S1x64, .f32⟩
  | .local _ .vmem, ⟨6, _⟩ => ⟨S1x16, .f32⟩
  | .local _ .vmem, ⟨7, _⟩ => ⟨S2x16, .f32⟩
  | .local _ .vmem, ⟨8, _⟩ => ⟨S1024x16, .f32⟩
  | .local _ .vmem, ⟨9, _⟩ => ⟨S1024x16, .f32⟩
  | .local _ .vmem, ⟨10, _⟩ => ⟨S2x1024, .f32⟩
  | .local _ .vmem, ⟨11, _⟩ => ⟨S2x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S8192x2048 : Shape := ⟨2, ![8192, 2048]⟩
abbrev S2048x64 : Shape := ⟨2, ![2048, 64]⟩
abbrev S64 : Shape := ⟨1, ![64]⟩
abbrev S64x16 : Shape := ⟨2, ![64, 16]⟩
abbrev S16 : Shape := ⟨1, ![16]⟩
abbrev S16x2048x2 : Shape := ⟨3, ![16, 2048, 2]⟩
abbrev S16x2 : Shape := ⟨2, ![16, 2]⟩
abbrev S8192x16 : Shape := ⟨2, ![8192, 16]⟩
abbrev S8192x64 : Shape := ⟨2, ![8192, 64]⟩
abbrev S1x64 : Shape := ⟨2, ![1, 64]⟩
abbrev S_ : Shape := ⟨0, ![]⟩
abbrev S1x16 : Shape := ⟨2, ![1, 16]⟩
abbrev S8192 : Shape := ⟨1, ![8192]⟩
abbrev S8192x1 : Shape := ⟨2, ![8192, 1]⟩
abbrev S8192x16x2 : Shape := ⟨3, ![8192, 16, 2]⟩
abbrev S1x16x2 : Shape := ⟨3, ![1, 16, 2]⟩
abbrev S8192x16x1 : Shape := ⟨3, ![8192, 16, 1]⟩
abbrev S8192x2 : Shape := ⟨2, ![8192, 2]⟩

abbrev nBuf : Space → Nat
  | .hbm => 46
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x64, .f32⟩
  | .hbm, ⟨2, _⟩ => ⟨S64, .f32⟩
  | .hbm, ⟨3, _⟩ => ⟨S64x16, .f32⟩
  | .hbm, ⟨4, _⟩ => ⟨S16, .f32⟩
  | .hbm, ⟨5, _⟩ => ⟨S16x2048x2, .f32⟩
  | .hbm, ⟨6, _⟩ => ⟨S16x2, .f32⟩
  | .hbm, ⟨7, _⟩ => ⟨S8192x16, .f32⟩
  | .hbm, ⟨8, _⟩ => ⟨S8192x64, .f32⟩
  | .hbm, ⟨9, _⟩ => ⟨S1x64, .f32⟩
  | .hbm, ⟨10, _⟩ => ⟨S8192x64, .f32⟩
  | .hbm, ⟨11, _⟩ => ⟨S8192x64, .f32⟩
  | .hbm, ⟨12, _⟩ => ⟨S_, .f32⟩
  | .hbm, ⟨13, _⟩ => ⟨S8192x64, .f32⟩
  | .hbm, ⟨14, _⟩ => ⟨S8192x64, .f32⟩
  | .hbm, ⟨15, _⟩ => ⟨S8192x16, .f32⟩
  | .hbm, ⟨16, _⟩ => ⟨S1x16, .f32⟩
  | .hbm, ⟨17, _⟩ => ⟨S8192x16, .f32⟩
  | .hbm, ⟨18, _⟩ => ⟨S8192x16, .f32⟩
  | .hbm, ⟨19, _⟩ => ⟨S8192x16, .f32⟩
  | .hbm, ⟨20, _⟩ => ⟨S_, .f32⟩
  | .hbm, ⟨21, _⟩ => ⟨S8192x16, .f32⟩
  | .hbm, ⟨22, _⟩ => ⟨S8192x16, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S8192x1, .f32⟩
  | .hbm, ⟨29, _⟩ => ⟨S8192x16, .f32⟩
  | .hbm, ⟨30, _⟩ => ⟨S8192x16, .f32⟩
  | .hbm, ⟨31, _⟩ => ⟨S8192x16, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x16, .f32⟩
  | .hbm, ⟨36, _⟩ => ⟨S8192x16, .f32⟩
  | .hbm, ⟨37, _⟩ => ⟨S8192x16x2, .f32⟩
  | .hbm, ⟨38, _⟩ => ⟨S1x16x2, .f32⟩
  | .hbm, ⟨39, _⟩ => ⟨S8192x16x2, .f32⟩
  | .hbm, ⟨40, _⟩ => ⟨S8192x16x2, .f32⟩
  | .hbm, ⟨41, _⟩ => ⟨S8192x16x1, .f32⟩
  | .hbm, ⟨42, _⟩ => ⟨S8192x16x2, .f32⟩
  | .hbm, ⟨43, _⟩ => ⟨S8192x16x2, .f32⟩
  | .hbm, ⟨44, _⟩ => ⟨S_, .f32⟩
  | .hbm, ⟨45, _⟩ => ⟨S8192x2, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Proof.Algebra.lean ====
/-
  The mathematics of one row, over extended reals and with no program in it: sixteen routing scores, their softmax,
  and two weighted sums of sixteen expert outputs.
-/
module

public import Idealize.ShloMosaic.Lib.IdealHost
public import Idealize.ShloMosaic.PureOps

@[expose] public section

noncomputable section

namespace Cert.Proof.Algebra

open Idealize.ShloMosaic

/-- The greatest of sixteen extended reals. -/
def greatest (z : Fin 16 → EReal) : EReal := Finset.univ.fold max ⊥ z

/-- The softmax of sixteen scores, shifted by the greatest of them. -/
def weight (z : Fin 16 → EReal) (e : Fin 16) : EReal :=
  Ideal.div (Ideal.exp (z e - greatest z)) (∑ k : Fin 16, Ideal.exp (z k - greatest z))

/-- The greatest score is the supremum of the scores. -/
theorem greatest_eq_sup (z : Fin 16 → EReal) : greatest z = Finset.univ.sup z := rfl

/-- No score exceeds the greatest. -/
theorem le_greatest (z : Fin 16 → EReal) (e : Fin 16) : z e ≤ greatest z := by
  rw [greatest_eq_sup]
  exact Finset.le_sup (Finset.mem_univ e)

/-- Some score is the greatest. -/
theorem exists_eq_greatest (z : Fin 16 → EReal) : ∃ e, z e = greatest z := by
  obtain ⟨e, -, he⟩ := Finset.exists_mem_eq_sup Finset.univ ⟨0, Finset.mem_univ _⟩ z
  exact ⟨e, he.symm⟩

/-- If the greatest logit is finite, so is the greatest sum of a logit and its (finite) noise. -/
theorem greatest_add_noise (g : Fin 16 → EReal) (n : Fin 16 → ℝ) (hlo : ⊥ < greatest g) (hhi : greatest g < ⊤) :
    ∃ r : ℝ, greatest (fun e => g e + (n e : EReal)) = (r : EReal) := by
  have hgt : ∀ e, g e + (n e : EReal) < ⊤ := fun e =>
    EReal.add_lt_top (lt_of_le_of_lt (le_greatest g e) hhi).ne (EReal.coe_ne_top _)
  have htop : greatest (fun e => g e + (n e : EReal)) ≠ ⊤ := by
    obtain ⟨e, he⟩ := exists_eq_greatest fun e => g e + (n e : EReal)
    rw [← he]
    exact (hgt e).ne
  have hbot : greatest (fun e => g e + (n e : EReal)) ≠ ⊥ := by
    obtain ⟨e, he⟩ := exists_eq_greatest g
    have h1 : ⊥ < g e + (n e : EReal) := EReal.bot_lt_add_iff.2 ⟨he ▸ hlo, EReal.bot_lt_coe _⟩
    exact (lt_of_lt_of_le h1 (le_greatest (fun e => g e + (n e : EReal)) e)).ne'
  exact ⟨_, (EReal.coe_toReal htop hbot).symm⟩

/-- The exponential of a number below `⊤` is not negative and not `⊤`. -/
theorem exp_bounds {x : EReal} (hx : x ≠ ⊤) : 0 ≤ Ideal.exp x ∧ Ideal.exp x ≠ ⊤ := by
  induction x with
  | bot => exact ⟨le_refl _, EReal.zero_ne_top⟩
  | top => exact absurd rfl hx
  | coe r => exact ⟨EReal.coe_nonneg.2 (Real.exp_pos r).le, EReal.coe_ne_top _⟩

/-- When the greatest score is finite, every softmax weight is nonnegative and finite. -/
theorem weight_bounds (z : Fin 16 → EReal) {r : ℝ} (hr : greatest z = (r : EReal)) (e : Fin 16) :
    0 ≤ weight z e ∧ weight z e ≠ ⊤ := by
  have hsub : ∀ k, z k - greatest z ≠ ⊤ := fun k => by
    rw [hr, sub_eq_add_neg, ← EReal.coe_neg]
    exact (EReal.add_lt_top ((le_greatest z k).trans_lt (hr ▸ EReal.coe_lt_top r)).ne (EReal.coe_ne_top _)).ne
  have hsum : (∑ k : Fin 16, Ideal.exp (z k - greatest z)) ≠ 0 := by
    obtain ⟨k, hk⟩ := exists_eq_greatest z
    have h1 : Ideal.exp (z k - greatest z) = 1 := by
      rw [hk, hr, ← EReal.coe_sub, sub_self]
      show ((Real.exp 0 : ℝ) : EReal) = 1
      rw [Real.exp_zero, EReal.coe_one]
    have h2 : (1 : EReal) ≤ ∑ k : Fin 16, Ideal.exp (z k - greatest z) := h1 ▸
      Finset.single_le_sum (f := fun k => Ideal.exp (z k - greatest z)) (fun k _ => (exp_bounds (hsub k)).1) (Finset.mem_univ k)
    exact (lt_of_lt_of_le zero_lt_one h2).ne'
  have hsum0 : 0 ≤ ∑ k : Fin 16, Ideal.exp (z k - greatest z) := Finset.sum_nonneg fun k _ => (exp_bounds (hsub k)).1
  have hinv : 0 ≤ (∑ k : Fin 16, Ideal.exp (z k - greatest z))⁻¹ := EReal.inv_nonneg_of_nonneg hsum0
  have hinvt : (∑ k : Fin 16, Ideal.exp (z k - greatest z))⁻¹ ≠ ⊤ := by
    generalize (∑ k : Fin 16, Ideal.exp (z k - greatest z)) = s at hsum
    induction s with
    | bot => rw [EReal.inv_bot]; exact EReal.zero_ne_top
    | top => rw [EReal.inv_top]; exact EReal.zero_ne_top
    | coe s => rw [← EReal.coe_inv]; exact EReal.coe_ne_top _
  unfold weight Ideal.div
  rw [if_neg hsum]
  refine ⟨mul_nonneg (exp_bounds (hsub e)).1 hinv, ?_⟩
  lift (∑ k : Fin 16, Ideal.exp (z k - greatest z))⁻¹ to ℝ using ⟨hinvt, fun h => by simp [h] at hinv⟩ with a
  lift Ideal.exp (z e - greatest z) to ℝ using ⟨(exp_bounds (hsub e)).2, fun h => by
    have := (exp_bounds (hsub e)).1; simp [h] at this⟩ with b
  rw [← EReal.coe_mul]
  exact EReal.coe_ne_top _

/-- The weighted sum of expert outputs with their biases is the weighted sum of the outputs plus that of the biases,
    when the greatest score is finite. -/
theorem sum_add_mul_weight (z y b : Fin 16 → EReal) {r : ℝ} (hr : greatest z = (r : EReal)) :
    ∑ e, (y e + b e) * weight z e = (∑ e, y e * weight z e) + ∑ e, b e * weight z e := by
  rw [← Finset.sum_add_distrib]
  exact Finset.sum_congr rfl fun e _ =>
    EReal.right_distrib_of_nonneg_of_ne_top (weight_bounds z hr e).1 (weight_bounds z hr e).2 _ _

/-- A row times a column with a single one, at `i₀`, and zeros elsewhere is the row's entry at `i₀`. -/
theorem sum_mul_indicator {n : ℕ} (y : Fin n → EReal) (p : Fin n → Prop) [DecidablePred p] (i₀ : Fin n)
    (hp : ∀ i, p i ↔ i = i₀) : ∑ i, y i * (if p i then 1 else 0) = y i₀ := by
  rw [Finset.sum_eq_single i₀ (fun i _ hi => by rw [if_neg fun h => hi ((hp i).1 h), mul_zero])
    (fun h => absurd (Finset.mem_univ _) h), if_pos ((hp i₀).2 rfl), mul_one]

/-- A 32-bit float word whose exponent field is not all ones denotes a real number. -/
theorem ofBits_real (b : BitVec 32) (hb : (b.extractLsb' 23 8).toNat ≠ 255) : ∃ r : ℝ, Ideal.ofBits .f32 b = (r : EReal) := by
  show ∃ r : ℝ, Ideal.ieee 8 23 b = (r : EReal)
  unfold Ideal.ieee
  dsimp only
  rw [if_neg (by exact hb)]
  split
  · exact ⟨_, rfl⟩
  · exact ⟨_, rfl⟩

/-- Division by one changes nothing. -/
theorem div_one (x : EReal) : Ideal.div x 1 = x := by
  simp [Ideal.div]

/-- The word of negative infinity denotes `⊥`. -/
theorem negInf_word : Ideal.ofBits .f32 0xFF800000#32 = ⊥ := by
  simp [Ideal.ofBits, Ideal.ieee]

/-- The word of infinity denotes `⊤`. -/
theorem posInf_word : Ideal.ofBits .f32 0x7F800000#32 = ⊤ := by
  simp [Ideal.ofBits, Ideal.ieee]

end Cert.Proof.Algebra

end
-- ==== Proof.Payload.lean ====
/-
  What each stage of the kernel computes, entry by entry, over the blocks it reads.
-/
module

public import proofs.«01_k».proof.Proof.Gen.KernelIdeal.Skeleton
public import proofs.«01_k».proof.Proof.Algebra
public import Idealize.ShloMosaic.Lib.Pipeline.ValueKit
public import Idealize.ShloMosaic.Lib.Pointwise

@[expose] public section

set_option maxRecDepth 16384

noncomputable section

namespace Cert.Proof.Payload

open Idealize.ShloMosaic Idealize.ShloMosaic.Pointwise Cert.KernelIdeal Cert.KernelIdeal.Gen

/-- The experts' outputs of a row: its products with the experts' weights, summed. -/
theorem pay4_apply (x : FVec Ideal S1024x2048 .f32) (w : FVec Ideal S32x2048 .f32) (r : Fin 1024) (j : Fin 32) :
    k0_pay4 x w (ix2 r j) = ∑ d : Fin 2048, x (ix2 r d) * w (ix2 j d) := by
  pointwise [k0_pay4, k0_pay2]

/-- The routing weights: expert `e`'s weight in row `r`, of the scores the routing layers and the noise give that row. -/
theorem pay3_apply (x : FVec Ideal S1024x2048 .f32) (w1 : FVec Ideal S64x2048 .f32) (b1 : FVec Ideal S1x64 .f32)
    (w2 : FVec Ideal S16x64 .f32) (b2 : FVec Ideal S1x16 .f32) (n : FVec Ideal S1024x16 .f32) (e : Fin 16) (r : Fin 1024) :
    k0_pay3 (F := Ideal) x w1 b1 w2 b2 n (ix2 e r) =
      Algebra.weight (fun e => ((∑ k : Fin 64, max ((∑ d : Fin 2048, x (ix2 r d) * w1 (ix2 k d)) + b1 (ix2 0 k)) 0 * w2 (ix2 e k)) +
        b2 (ix2 0 e)) + n (ix2 r e)) e := by
  pointwise [k0_pay3, k0_pay2]
  rw [Algebra.negInf_word]
  rfl

/-- Column `j` of the regrouped outputs takes expert output `2 * (j % 16) + j / 16`, and no other. -/
theorem mask_words : ∀ (i j : Fin 32),
    k0_pay5 (iota .tc S32x32 32 [0] iota_S32x32_d0_w32) (iota .tc S32x32 32 [1] iota_S32x32_d1_w32) 2#32 0#32 (ix2 i j) =
      if i.val = 2 * (j.val % 16) + j.val / 16 then 1#1 else 0#1 := by
  decide +kernel

/-- The block's result at class `c`, row `r`: class `c` of the experts' outputs, weighted and summed, plus the experts'
    biases, weighted and summed. -/
theorem pay1_apply (w : FVec Ideal S16x1024 .f32) (y : FVec Ideal S1024x32 .f32) (p : IVec S32x32 1) (b : FVec Ideal S2x16 .f32)
    (c : Fin 2) (r : Fin 1024) (hp : ∀ (i j : Fin 32), p (ix2 i j) = if i.val = 2 * (j.val % 16) + j.val / 16 then 1#1 else 0#1) :
    k0_pay1 w y p k0_pay6 k0_pay7 b (ix2 c r) =
      (∑ e : Fin 16, y (ix2 r ⟨2 * e.val + c.val, by omega⟩) * w (ix2 e r)) + ∑ e : Fin 16, b (ix2 c e) * w (ix2 e r) := by
  have hpick : ∀ (j k : Fin 32), k.val = 2 * (j.val % 16) + j.val / 16 →
      ∑ i : Fin 32, Scalar.select (p (ix2 i j)) (y (ix2 r i)) 0 = y (ix2 r k) := by
    intro j k hk
    rw [Finset.sum_eq_single k]
    · rw [hp, if_pos hk]; rfl
    · intro i _ hi
      rw [hp, if_neg (fun h => hi (Fin.ext (h.trans hk.symm)))]; rfl
    · intro h; exact absurd (Finset.mem_univ k) h
  pointwise [k0_pay1, k0_pay6, k0_pay7]
  congr 1
  split <;> refine Finset.sum_congr rfl fun e _ => ?_
  · rw [hpick _ ⟨2 * e.val + c.val, by omega⟩ (by show 2 * e.val + c.val = 2 * (e.val % 16) + e.val / 16; omega)]
  · rw [hpick _ ⟨2 * e.val + c.val, by omega⟩ (by show 2 * e.val + c.val = 2 * ((16 + e.val) % 16) + (16 + e.val) / 16; omega)]

/-- The block's result at class `c`, row `r`, from the blocks the grid point reads. -/
theorem block_apply (x : FVec Ideal S1024x2048 .f32) (w1 : FVec Ideal S64x2048 .f32) (v : FVec Ideal S32x2048 .f32)
    (w2 : FVec Ideal S16x64 .f32) (b1 : FVec Ideal S1x64 .f32) (b2 : FVec Ideal S1x16 .f32) (b : FVec Ideal S2x16 .f32)
    (n : FVec Ideal S1024x16 .f32) (c : Fin 2) (r : Fin 1024) :
    k0_pay1 (k0_pay3 (F := Ideal) x w1 b1 w2 b2 n) (k0_pay4 x v)
      (k0_pay5 (iota .tc S32x32 32 [0] iota_S32x32_d0_w32) (iota .tc S32x32 32 [1] iota_S32x32_d1_w32) 2#32 0#32)
      k0_pay6 k0_pay7 b (ix2 c r) =
      (∑ e : Fin 16, (∑ d : Fin 2048, x (ix2 r d) * v (ix2 ⟨2 * e.val + c.val, by omega⟩ d)) *
        Algebra.weight (fun e => ((∑ k : Fin 64, max ((∑ d : Fin 2048, x (ix2 r d) * w1 (ix2 k d)) + b1 (ix2 0 k)) 0 * w2 (ix2 e k)) +
          b2 (ix2 0 e)) + n (ix2 r e)) e) +
      ∑ e : Fin 16, b (ix2 c e) *
        Algebra.weight (fun e => ((∑ k : Fin 64, max ((∑ d : Fin 2048, x (ix2 r d) * w1 (ix2 k d)) + b1 (ix2 0 k)) 0 * w2 (ix2 e k)) +
          b2 (ix2 0 e)) + n (ix2 r e)) e := by
  refine (pay1_apply _ _ _ _ c r mask_words).trans ?_
  simp only [pay3_apply, pay4_apply]

end Cert.Proof.Payload

end
-- ==== Proof.Spec.lean ====
/-
  The function both programs compute, entry by entry: a row's routing scores, and the kernel's and the reference's
  arrangements of the weighted sum of the experts' outputs.
-/
module

public import proofs.«01_k».proof.KernelIdeal
public import proofs.«01_k».proof.Proof.Algebra
public import Idealize.ShloMosaic.Lib.Pointwise

@[expose] public section

set_option maxRecDepth 16384

noncomputable section

namespace Cert.Proof.Spec

open Idealize.ShloMosaic Idealize.ShloMosaic.Pointwise Cert.KernelIdeal

/-- The noise added to the routing logits: the printed table, row by row. -/
def noise : FVec Ideal S8192x16 .f32 := fun i => FloatOps.ofBits .f32 (lit0 (S8192x16.rowMajor i))

/-- Expert `e`'s routing logit in row `b`: two layers, the first cut off below at zero. -/
def logit (x : FVec Ideal S8192x2048 .f32) (rw1 : FVec Ideal S2048x64 .f32) (rb1 : FVec Ideal S64 .f32)
    (rw2 : FVec Ideal S64x16 .f32) (rb2 : FVec Ideal S16 .f32) (b : Fin 8192) (e : Fin 16) : EReal :=
  (∑ k : Fin 64, max ((∑ d : Fin 2048, x (ix2 b d) * rw1 (ix2 d k)) + rb1 (ix1 k)) 0 * rw2 (ix2 k e)) + rb2 (ix1 e)

/-- Expert `e`'s routing score in row `b`: its logit and its noise. -/
def score (x : FVec Ideal S8192x2048 .f32) (rw1 : FVec Ideal S2048x64 .f32) (rb1 : FVec Ideal S64 .f32)
    (rw2 : FVec Ideal S64x16 .f32) (rb2 : FVec Ideal S16 .f32) (n : FVec Ideal S8192x16 .f32) (b : Fin 8192) (e : Fin 16) : EReal :=
  logit x rw1 rb1 rw2 rb2 b e + n (ix2 b e)

/-- Expert `e`'s output for class `c` in row `b`, its bias left out. -/
def expert (x : FVec Ideal S8192x2048 .f32) (ew : FVec Ideal S16x2048x2 .f32) (b : Fin 8192) (e : Fin 16) (c : Fin 2) : EReal :=
  ∑ d : Fin 2048, x (ix2 b d) * ew (ix3 e d c)

/-- The kernel's result for class `c` in row `b`: the weighted outputs and the weighted biases, summed apart. -/
def apart (x : FVec Ideal S8192x2048 .f32) (rw1 : FVec Ideal S2048x64 .f32) (rb1 : FVec Ideal S64 .f32)
    (rw2 : FVec Ideal S64x16 .f32) (rb2 : FVec Ideal S16 .f32) (ew : FVec Ideal S16x2048x2 .f32) (eb : FVec Ideal S16x2 .f32)
    (n : FVec Ideal S8192x16 .f32) (b : Fin 8192) (c : Fin 2) : EReal :=
  (∑ e : Fin 16, expert x ew b e c * Algebra.weight (score x rw1 rb1 rw2 rb2 n b) e) +
    ∑ e : Fin 16, eb (ix2 e c) * Algebra.weight (score x rw1 rb1 rw2 rb2 n b) e

/-- The reference's result for class `c` in row `b`: each output with its bias, weighted, then summed. -/
def together (x : FVec Ideal S8192x2048 .f32) (rw1 : FVec Ideal S2048x64 .f32) (rb1 : FVec Ideal S64 .f32)
    (rw2 : FVec Ideal S64x16 .f32) (rb2 : FVec Ideal S16 .f32) (ew : FVec Ideal S16x2048x2 .f32) (eb : FVec Ideal S16x2 .f32)
    (n : FVec Ideal S8192x16 .f32) (b : Fin 8192) (c : Fin 2) : EReal :=
  ∑ e : Fin 16, (expert x ew b e c + eb (ix2 e c)) * Algebra.weight (score x rw1 rb1 rw2 rb2 n b) e

end Cert.Proof.Spec

end
-- ==== Proof.Value.lean ====
/-
  The kernel's result array after the run, entry by entry.
-/
module

public import proofs.«01_k».proof.Proof.Gen.KernelIdeal.Frame
public import proofs.«01_k».proof.Proof.Payload
public import proofs.«01_k».proof.Proof.Spec

@[expose] public section

set_option maxRecDepth 16384

noncomputable section

namespace Cert.Proof.Value

open Idealize.ShloMosaic Idealize.ShloMosaic.Pointwise Idealize.SL.Sem Cert.KernelIdeal Cert.KernelIdeal.Gen

variable (m : (ℓ : Loc nD τ sig) → Buf (Elt Ideal) ℓ)

/-- The kernel's result array: classes by rows. -/
def result (x : FVec Ideal S8192x2048 .f32) (rw1 : FVec Ideal S2048x64 .f32) (rb1 : FVec Ideal S64 .f32)
    (rw2 : FVec Ideal S64x16 .f32) (rb2 : FVec Ideal S16 .f32) (ew : FVec Ideal S16x2048x2 .f32) (eb : FVec Ideal S16x2 .f32)
    (n : FVec Ideal S8192x16 .f32) : FVec Ideal S2x8192 .f32 :=
  fun j => Spec.apart x rw1 rb1 rw2 rb2 ew eb n (j 1) (j 0)

/-- The noise operand is the printed table. -/
theorem V_noise (c : Dev nD) : V m c main_cst = Spec.noise := by rfl

/-- The block each operand takes at each of the eight grid points: rows `1024 * t` on, of the operands taken by rows. -/
theorem idx : ∀ t : Fin cfg0.N, win0_0.index t = ![t.val, 0] ∧ win0_1.index t = ![0, 0] ∧ win0_2.index t = ![0, 0] ∧
    win0_3.index t = ![0, 0] ∧ win0_4.index t = ![0, 0] ∧ win0_5.index t = ![0, 0] ∧ win0_6.index t = ![0, 0] ∧
    win0_7.index t = ![t.val, 0] ∧ win0_8.index t = ![0, t.val] :=
  (by decide +kernel : ∀ t : Fin grid0.N, _)

/-- Row `r` of grid point `t`'s block is row `1024 * t + r` of the array. -/
def row (t : Fin cfg0.N) (r : Fin 1024) : Fin 8192 :=
  ⟨1024 * t.val + r.val, by have h : t.val < 8 := t.isLt; omega⟩

/-- The first routing layer's weights arrive transposed. -/
theorem V_w1 (c : Dev nD) : V m c main_v0 = transpose S64x2048 [1, 0] (m ((c.tc : Thread nD τ).loc main_arg1) : FVec Ideal S2048x64 .f32) transposes_S2048x64_S64x2048_1_0 := by rfl

/-- The second routing layer's weights arrive transposed. -/
theorem V_w2 (c : Dev nD) : V m c main_v1 = transpose S16x64 [1, 0] (m ((c.tc : Thread nD τ).loc main_arg3) : FVec Ideal S64x16 .f32) transposes_S64x16_S16x64_1_0 := by rfl

/-- The experts' biases arrive transposed. -/
theorem V_eb (c : Dev nD) : V m c main_v2 = transpose S2x16 [1, 0] (m ((c.tc : Thread nD τ).loc main_arg6) : FVec Ideal S16x2 .f32) transposes_S16x2_S2x16_1_0 := by rfl

/-- The experts' weights arrive with the classes before the features, an expert's classes in neighbouring rows. -/
theorem V_ew (c : Dev nD) : V m c main_v4 = shapeCast S32x2048
    (transpose S16x2x2048 [0, 2, 1] (m ((c.tc : Thread nD τ).loc main_arg5) : FVec Ideal S16x2048x2 .f32) transposes_S16x2048x2_S16x2x2048_0_2_1)
    shapeCasts_S16x2x2048_S32x2048 := by rfl

/-- The first routing layer's biases arrive as one row. -/
theorem V_b1 (c : Dev nD) : V m c main_v5 = shapeCast S1x64 (m ((c.tc : Thread nD τ).loc main_arg2) : FVec Ideal S64 .f32) shapeCasts_S64_S1x64 := by rfl

/-- The second routing layer's biases arrive as one row. -/
theorem V_b2 (c : Dev nD) : V m c main_v6 = shapeCast S1x16 (m ((c.tc : Thread nD τ).loc main_arg4) : FVec Ideal S16 .f32) shapeCasts_S16_S1x16 := by rfl

/-- The point's rows of `x`. -/
theorem read0 (c : Dev nD) (t : Fin cfg0.N) (r : Fin 1024) (d : Fin 2048) :
    (iblk m c 0 t : FVec Ideal S1024x2048 .f32) (ix2 r d) = (m ((c.tc : Thread nD τ).loc main_arg0) : FVec Ideal S8192x2048 .f32) (ix2 (row t r) d) := by
  blk_ext [iblk, V, idx t, row]

/-- The first routing layer's weights. -/
theorem read1 (c : Dev nD) (t : Fin cfg0.N) (k : Fin 64) (d : Fin 2048) :
    (iblk m c 1 t : FVec Ideal S64x2048 .f32) (ix2 k d) = (m ((c.tc : Thread nD τ).loc main_arg1) : FVec Ideal S2048x64 .f32) (ix2 d k) := by
  have h : (iblk m c 1 t : FVec Ideal S64x2048 .f32) (ix2 k d) = (V m c main_v0 : FVec Ideal S64x2048 .f32) (ix2 k d) := by
    blk_ext [iblk, idx t]
  rw [h, V_w1 m c]
  pointwise!

/-- The experts' weights: row `2 * e + k` is expert `e`'s class `k`. -/
theorem read2 (c : Dev nD) (t : Fin cfg0.N) (e : Fin 16) (k : Fin 2) (d : Fin 2048) :
    (iblk m c 2 t : FVec Ideal S32x2048 .f32) (ix2 ⟨2 * e.val + k.val, by omega⟩ d) = (m ((c.tc : Thread nD τ).loc main_arg5) : FVec Ideal S16x2048x2 .f32) (ix3 e d k) := by
  have h : (iblk m c 2 t : FVec Ideal S32x2048 .f32) (ix2 ⟨2 * e.val + k.val, by omega⟩ d) = (V m c main_v4 : FVec Ideal S32x2048 .f32) (ix2 ⟨2 * e.val + k.val, by omega⟩ d) := by
    blk_ext [iblk, idx t]
  rw [h, V_ew m c]
  pointwise!

/-- The second routing layer's weights. -/
theorem read3 (c : Dev nD) (t : Fin cfg0.N) (e : Fin 16) (k : Fin 64) :
    (iblk m c 3 t : FVec Ideal S16x64 .f32) (ix2 e k) = (m ((c.tc : Thread nD τ).loc main_arg3) : FVec Ideal S64x16 .f32) (ix2 k e) := by
  have h : (iblk m c 3 t : FVec Ideal S16x64 .f32) (ix2 e k) = (V m c main_v1 : FVec Ideal S16x64 .f32) (ix2 e k) := by
    blk_ext [iblk, idx t]
  rw [h, V_w2 m c]
  pointwise!

/-- The first routing layer's biases. -/
theorem read4 (c : Dev nD) (t : Fin cfg0.N) (k : Fin 64) :
    (iblk m c 4 t : FVec Ideal S1x64 .f32) (ix2 0 k) = (m ((c.tc : Thread nD τ).loc main_arg2) : FVec Ideal S64 .f32) (ix1 k) := by
  have h : (iblk m c 4 t : FVec Ideal S1x64 .f32) (ix2 0 k) = (V m c main_v5 : FVec Ideal S1x64 .f32) (ix2 0 k) := by
    blk_ext [iblk, idx t]
  rw [h, V_b1 m c]
  pointwise!

/-- The second routing layer's biases. -/
theorem read5 (c : Dev nD) (t : Fin cfg0.N) (e : Fin 16) :
    (iblk m c 5 t : FVec Ideal S1x16 .f32) (ix2 0 e) = (m ((c.tc : Thread nD τ).loc main_arg4) : FVec Ideal S16 .f32) (ix1 e) := by
  have h : (iblk m c 5 t : FVec Ideal S1x16 .f32) (ix2 0 e) = (V m c main_v6 : FVec Ideal S1x16 .f32) (ix2 0 e) := by
    blk_ext [iblk, idx t]
  rw [h, V_b2 m c]
  pointwise!

/-- The experts' biases. -/
theorem read6 (c : Dev nD) (t : Fin cfg0.N) (k : Fin 2) (e : Fin 16) :
    (iblk m c 6 t : FVec Ideal S2x16 .f32) (ix2 k e) = (m ((c.tc : Thread nD τ).loc main_arg6) : FVec Ideal S16x2 .f32) (ix2 e k) := by
  have h : (iblk m c 6 t : FVec Ideal S2x16 .f32) (ix2 k e) = (V m c main_v2 : FVec Ideal S2x16 .f32) (ix2 k e) := by
    blk_ext [iblk, idx t]
  rw [h, V_eb m c]
  pointwise!

/-- The noise of the point's rows. -/
theorem read7 (c : Dev nD) (t : Fin cfg0.N) (r : Fin 1024) (e : Fin 16) :
    (iblk m c 7 t : FVec Ideal S1024x16 .f32) (ix2 r e) = Spec.noise (ix2 (row t r) e) := by
  have h : (iblk m c 7 t : FVec Ideal S1024x16 .f32) (ix2 r e) = (V m c main_cst : FVec Ideal S8192x16 .f32) (ix2 (row t r) e) := by
    blk_ext [iblk, idx t, row]
  rw [h, V_noise m c]

end Cert.Proof.Value

end
-- ==== Proof.Final.lean ====
/-
  The kernel's result array after the run.
-/
module

public import proofs.«01_k».proof.Proof.Value
public import Idealize.ShloMosaic.Lib.Claim

@[expose] public section

set_option maxRecDepth 16384

noncomputable section

namespace Cert.Proof.Value

open Idealize.ShloMosaic Idealize.ShloMosaic.Pointwise Idealize.SL.Sem Cert.KernelIdeal Cert.KernelIdeal.Gen

/-- Blocks that read the operands at one row of the batch give that row's result. -/
theorem block_of_reads (x : FVec Ideal S1024x2048 .f32) (w1 : FVec Ideal S64x2048 .f32) (v : FVec Ideal S32x2048 .f32)
    (w2 : FVec Ideal S16x64 .f32) (b1 : FVec Ideal S1x64 .f32) (b2 : FVec Ideal S1x16 .f32) (b : FVec Ideal S2x16 .f32)
    (n : FVec Ideal S1024x16 .f32) (X : FVec Ideal S8192x2048 .f32) (rw1 : FVec Ideal S2048x64 .f32) (rb1 : FVec Ideal S64 .f32)
    (rw2 : FVec Ideal S64x16 .f32) (rb2 : FVec Ideal S16 .f32) (ew : FVec Ideal S16x2048x2 .f32) (eb : FVec Ideal S16x2 .f32)
    (N : FVec Ideal S8192x16 .f32) (c : Fin 2) (r : Fin 1024) (i : Fin 8192)
    (hx : ∀ d, x (ix2 r d) = X (ix2 i d)) (hw1 : ∀ k d, w1 (ix2 k d) = rw1 (ix2 d k))
    (hv : ∀ (e : Fin 16) (k : Fin 2) d, v (ix2 ⟨2 * e.val + k.val, by omega⟩ d) = ew (ix3 e d k))
    (hw2 : ∀ e k, w2 (ix2 e k) = rw2 (ix2 k e)) (hb1 : ∀ k, b1 (ix2 0 k) = rb1 (ix1 k)) (hb2 : ∀ e, b2 (ix2 0 e) = rb2 (ix1 e))
    (hb : ∀ k e, b (ix2 k e) = eb (ix2 e k)) (hn : ∀ e, n (ix2 r e) = N (ix2 i e)) :
    k0_pay1 (k0_pay3 (F := Ideal) x w1 b1 w2 b2 n) (k0_pay4 x v)
      (k0_pay5 (iota .tc S32x32 32 [0] iota_S32x32_d0_w32) (iota .tc S32x32 32 [1] iota_S32x32_d1_w32) 2#32 0#32)
      k0_pay6 k0_pay7 b (ix2 c r) = Spec.apart X rw1 rb1 rw2 rb2 ew eb N i c := by
  refine (Payload.block_apply x w1 v w2 b1 b2 b n c r).trans ?_
  simp only [hx, hw1, hv, hw2, hb1, hb2, hb, hn]
  rfl

variable (m : (ℓ : Loc nD τ sig) → Buf (Elt Ideal) ℓ)

/-- What a grid point leaves in its block is the result array's entry there. -/
theorem point (c : Dev nD) (t : Fin cfg0.N) (y : S2x1024.Idx) :
    k0_pay1 (F := Ideal) (k0_pay3 (F := Ideal) (iblk m c 0 t) (iblk m c 1 t) (iblk m c 4 t) (iblk m c 3 t) (iblk m c 5 t) (iblk m c 7 t))
      (k0_pay4 (F := Ideal) (iblk m c 0 t) (iblk m c 2 t))
      (k0_pay5 (iota .tc S32x32 32 [0] iota_S32x32_d0_w32) (iota .tc S32x32 32 [1] iota_S32x32_d1_w32) 2#32 0#32)
      (k0_pay6 (F := Ideal)) (k0_pay7 (F := Ideal)) (iblk m c 6 t) y =
    result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) Spec.noise (((cfg0.win 8).blk t).view.emb y) := by
  have hi : ((cfg0.win 8).blk t).view.emb y = (ix2 (y 0) (row t (y 1)) : S2x8192.Idx) := by
    blk_ext [idx t, row]
  rw [hi, eq_ix2 y]
  exact block_of_reads _ _ _ _ _ _ _ _ _ _ _ _ _ _ _ _ (y 0) (y 1) (row t (y 1)) (read0 m c t (y 1)) (read1 m c t) (read2 m c t)
    (read3 m c t) (read4 m c t) (read5 m c t) (read6 m c t) (read7 m c t (y 1))

/-- After the run the kernel's result array holds, for each class and row, the weighted sum over the experts. -/
theorem final (c : Dev nD) : (dats m 0 c).arrAt 8 (cfgs 0).N =
    result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) Spec.noise := by
  refine (dats m 0 c).arrAt_eq_of_covers 8 _ (by decide +kernel) fun t _ y => ?_
  blk_simp
  rw [after0_8]
  frame_out
  exact point m c t y

/-- What follows the region transposes the result array. -/
theorem tail_eq (c : Dev nD) : Pipeline.afterTail₀ cfgs (dats m) 0 (V0 m) [hostOps1] c main_v8 =
    transpose S8192x2 [1, 0] ((dats m 0 c).arrAt 8 (cfgs 0).N : FVec Ideal S2x8192 .f32) transposes_S2x8192_S8192x2_1_0 := by
  refine Eq.trans (b := transpose S8192x2 [1, 0] (Pipeline.withArrays (cfgs 0).spec c (V0 m c) (fun w => (dats m 0 c).arrAt w (cfgs 0).N)
    (Proc.devRef .tc main_v7) : FVec Ideal S2x8192 .f32) transposes_S2x8192_S8192x2_1_0) ?_ ?_
  · unfold Pipeline.afterTail₀
    rfl
  · exact congrArg (fun A : FVec Ideal S2x8192 .f32 => transpose S8192x2 [1, 0] A transposes_S2x8192_S8192x2_1_0)
      (Pipeline.withArrays_arr (cfgs 0).spec launch0.win.arr_inj c (V0 m c) (fun w => (dats m 0 c).arrAt w (cfgs 0).N) 8)

/-- The kernel's run: its result is that array with rows before classes, and its arguments end as they began. -/
theorem run (g : Dev nD → PrngReg) :
    θ_run (defs (F := Ideal)) (onTc (τ := τ) (main (F := Ideal))) ⟨m, fun _ => 0, g⟩ fun r => ∀ c : Dev nD,
      r.2.mem ((c.tc : Thread nD τ).loc main_v8) = transpose S8192x2 [1, 0] (result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) Spec.noise)
        transposes_S2x8192_S8192x2_1_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run _ _ _).mono (fun _ h c => ⟨((h.1 c).2 main_v8 (Pipeline.mem_restRefs_of main_v8 (by decide) (by decide))).trans
      ((tail_eq m c).trans (congrArg (fun A : FVec Ideal S2x8192 .f32 => transpose S8192x2 [1, 0] A transposes_S2x8192_S8192x2_1_0)
        (final m c))), h.2 c⟩)
    (θ_run_and (run_main m g) (unchanged m g))

end Cert.Proof.Value

end
-- ==== Proof.Reference.lean ====
/-
  The reference's result and the precondition, entry by entry.
-/
module

public import proofs.«01_k».proof.Proof.Gen.ReferenceIdeal.Run
public import proofs.«01_k».proof.Proof.Gen.Pre_routing_defined
public import proofs.«01_k».proof.Proof.Spec
public import Idealize.ShloMosaic.Lib.Pipeline.ValueKit
public import Idealize.ShloMosaic.Lib.Pointwise

@[expose] public section

set_option maxRecDepth 16384

noncomputable section

namespace Cert.Proof.Reference

open Idealize.ShloMosaic Idealize.ShloMosaic.Pointwise

/-- A conjunction of two tests is true when both are. -/
theorem both_of_andi {p q : Bool} (h : IntOp.andi (BitVec.ofBool p) (BitVec.ofBool q) = 1#1) : p = true ∧ q = true := by
  revert p q
  decide

/-- The precondition says of each row that its greatest routing logit is above `⊥` and below `⊤`. -/
theorem bounds_of_pre (x : FVec Ideal KernelIdeal.S8192x2048 .f32) (rw1 : FVec Ideal KernelIdeal.S2048x64 .f32)
    (rb1 : FVec Ideal KernelIdeal.S64 .f32) (rw2 : FVec Ideal KernelIdeal.S64x16 .f32) (rb2 : FVec Ideal KernelIdeal.S16 .f32)
    (ew : FVec Ideal KernelIdeal.S16x2048x2 .f32) (eb : FVec Ideal KernelIdeal.S16x2 .f32)
    (h : Cert.Pre_routing_defined.fn (F := Ideal) x rw1 rb1 rw2 rb2 ew eb = fun _ => 1#1) (b : Fin 8192) :
    ⊥ < Algebra.greatest (Spec.logit x rw1 rb1 rw2 rb2 b) ∧ Algebra.greatest (Spec.logit x rw1 rb1 rw2 rb2 b) < ⊤ := by
  have hb := congrFun h (ix1 b)
  revert hb
  pointwise [Cert.Pre_routing_defined.fn]
  rw [Algebra.negInf_word, Algebra.posInf_word]
  intro hb
  exact (both_of_andi hb).imp of_decide_eq_true of_decide_eq_true

open Cert.ReferenceIdeal Cert.ReferenceIdeal.Gen

/-- The reference's routing scores. -/
def scores (x : FVec Ideal KernelIdeal.S8192x2048 .f32) (rw1 : FVec Ideal KernelIdeal.S2048x64 .f32)
    (rb1 : FVec Ideal KernelIdeal.S64 .f32) (rw2 : FVec Ideal KernelIdeal.S64x16 .f32) (rb2 : FVec Ideal KernelIdeal.S16 .f32)
    (n : FVec Ideal S8192x16 .f32) : FVec Ideal S8192x16 .f32 :=
  Host.divf (addf (addf (Host.dotGeneral dot_S8192x64_S64x16_S8192x16_1_0_0_1_n_n none
    (maximumf (addf (Host.dotGeneral dot_S8192x2048_S2048x64_S8192x64_1_0_0_1_n_n none x rw1)
      (broadcastInDim S8192x64 ![0, 1] bcast_S1x64_S8192x64_0_1 (broadcastInDim S1x64 ![1] bcast_S64_S1x64_1 rb1)))
      (broadcastInDim S8192x64 ![] bcast_S_S8192x64 (constant S_ .f32 0x00000000#32))) rw2)
    (broadcastInDim S8192x16 ![0, 1] bcast_S1x16_S8192x16_0_1 (broadcastInDim S1x16 ![1] bcast_S16_S1x16_1 rb2))) n)
    (broadcastInDim S8192x16 ![] bcast_S_S8192x16 (constant S_ .f32 0x3F800000#32))

/-- The reference's exponentials, each of a score's difference to its row's greatest score. -/
def exps (z : FVec Ideal S8192x16 .f32) : FVec Ideal S8192x16 .f32 :=
  Host.exp (subf z (broadcastInDim S8192x16 ![0, 1] bcast_S8192x1_S8192x16_0_1 (broadcastInDim S8192x1 ![0] bcast_S8192_S8192x1_0
    (maximumf (broadcastInDim S8192 ![] bcast_S_S8192 (constant S_ .f32 0xFF800000#32))
      (Host.reduce FloatOps.maximumf z (constant S_ .f32 0xFF800000#32) reducesTo_S8192x16_S8192_d1 h_S_)))))

/-- The reference's routing weights, of its scores. -/
def weights (z : FVec Ideal S8192x16 .f32) : FVec Ideal S8192x16 .f32 :=
  Host.divf (exps z) (broadcastInDim S8192x16 ![0, 1] bcast_S8192x1_S8192x16_0_1 (broadcastInDim S8192x1 ![0] bcast_S8192_S8192x1_0
    (Host.reduceAdd (exps z) (constant S_ .f32 0x00000000#32) reducesTo_S8192x16_S8192_d1 h_S_)))

/-- The reference's weighted sum of the experts' outputs, biases added. -/
def mixed (x : FVec Ideal S8192x2048 .f32) (ew : FVec Ideal S16x2048x2 .f32) (eb : FVec Ideal S16x2 .f32) (w : FVec Ideal S8192x16 .f32) :
    FVec Ideal S8192x2 .f32 :=
  Host.reduceAdd (mulf (addf (Host.dotGeneral dot_S8192x2048_S16x2048x2_S8192x16x2_1_1_0_02_n_n none x ew)
    (broadcastInDim S8192x16x2 ![0, 1, 2] bcast_S1x16x2_S8192x16x2_0_1_2 (broadcastInDim S1x16x2 ![1, 2] bcast_S16x2_S1x16x2_1_2 eb)))
    (broadcastInDim S8192x16x2 ![0, 1, 2] bcast_S8192x16x1_S8192x16x2_0_1_2 (broadcastInDim S8192x16x1 ![0, 1] bcast_S8192x16_S8192x16x1_0_1 w)))
    (constant S_ .f32 0x00000000#32) reducesTo_S8192x16x2_S8192x2_d1 h_S_

/-- An expert's score in a row is its logit and its noise. -/
theorem scores_apply (x : FVec Ideal KernelIdeal.S8192x2048 .f32) (rw1 : FVec Ideal KernelIdeal.S2048x64 .f32)
    (rb1 : FVec Ideal KernelIdeal.S64 .f32) (rw2 : FVec Ideal KernelIdeal.S64x16 .f32) (rb2 : FVec Ideal KernelIdeal.S16 .f32)
    (n : FVec Ideal S8192x16 .f32) (b : Fin 8192) (e : Fin 16) :
    scores x rw1 rb1 rw2 rb2 n (ix2 b e) = Spec.score x rw1 rb1 rw2 rb2 n b e := by
  pointwise [scores]
  exact Algebra.div_one _

/-- An exponential is taken of a score's difference to its row's greatest score. -/
theorem exps_apply (z : FVec Ideal S8192x16 .f32) (b : Fin 8192) (e : Fin 16) :
    exps z (ix2 b e) = Ideal.exp (z (ix2 b e) - Algebra.greatest fun e => z (ix2 b e)) := by
  pointwise [exps]
  rw [Algebra.negInf_word, max_eq_right bot_le]
  rfl

/-- An expert's weight in a row is of that row's scores. -/
theorem weights_apply (z : FVec Ideal S8192x16 .f32) (b : Fin 8192) (e : Fin 16) :
    weights z (ix2 b e) = Algebra.weight (fun e => z (ix2 b e)) e := by
  pointwise [weights]
  simp only [exps_apply]
  rfl

/-- The weighted sum, entry by entry. -/
theorem mixed_apply (x : FVec Ideal S8192x2048 .f32) (ew : FVec Ideal S16x2048x2 .f32) (eb : FVec Ideal S16x2 .f32) (w : FVec Ideal S8192x16 .f32)
    (b : Fin 8192) (c : Fin 2) :
    mixed x ew eb w (ix2 b c) = ∑ e : Fin 16, (Spec.expert x ew b e c + eb (ix2 e c)) * w (ix2 b e) := by
  pointwise [mixed]
  rfl

/-- The reference's result, entry by entry. -/
theorem reference_apply (x : FVec Ideal KernelIdeal.S8192x2048 .f32) (rw1 : FVec Ideal KernelIdeal.S2048x64 .f32)
    (rb1 : FVec Ideal KernelIdeal.S64 .f32) (rw2 : FVec Ideal KernelIdeal.S64x16 .f32) (rb2 : FVec Ideal KernelIdeal.S16 .f32)
    (ew : FVec Ideal S16x2048x2 .f32) (eb : FVec Ideal S16x2 .f32) (n : FVec Ideal S8192x16 .f32) (b : Fin 8192) (c : Fin 2) :
    mixed x ew eb (weights (scores x rw1 rb1 rw2 rb2 n)) (ix2 b c) = Spec.together x rw1 rb1 rw2 rb2 ew eb n b c := by
  simp only [mixed_apply, weights_apply, scores_apply]
  rfl

/-- The reference's run leaves that result of its arguments and its own noise table. -/
theorem result_eq (m : (ℓ : Loc nD τ sig) → Buf (Elt Ideal) ℓ) (c : Dev nD) :
    Value.res_main_v31 m c =
      mixed (m ((c.tc : Thread nD τ).loc main_arg0)) (m ((c.tc : Thread nD τ).loc main_arg5)) (m ((c.tc : Thread nD τ).loc main_arg6))
        (weights (scores (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          fun i => FloatOps.ofBits .f32 (lit0 (S8192x16.rowMajor i)))) := by
  unfold Value.res_main_v31
  rfl

end Cert.Proof.Reference

end
-- ==== Proof.Table.lean ====
/-
  The words of the noise table: none is an infinity or a NaN.
-/
module

public import proofs.«01_k».proof.KernelIdeal

@[expose] public section

set_option maxRecDepth 16384

namespace Cert.Proof.Noise

open Idealize.ShloMosaic Cert.KernelIdeal

/-- The exponent field of a 32-bit float word is not all ones: the word is neither an infinity nor a NaN. -/
def finiteWord (b : BitVec 32) : Bool := !Nat.beq (Nat.mod (Nat.div b.toNat 8388608) 256) 255

/-- A test that holds of one arm of a table and of the rest of the table holds of the table. -/
theorem arm_of {x k : Nat} {β : Type} {p : β → Bool} {a b : β} (ha : p a = true) (hb : p b = true) :
    p (@dite β (x = k) (instDecidableEqNat x k) (@Eq.ndrec_symm Nat k (fun _ => β) a x) (fun _ => b)) = true := by
  by_cases h : x = k
  · subst h; rw [dif_pos rfl]; exact ha
  · rw [dif_neg h]; exact hb

set_option maxHeartbeats 0 in
/-- Every word of table part 0 is finite: each of its 128 rows of 128 words, arm by arm. -/
theorem part0 (i : Nat) : finiteWord (lit0t1_0 i) = true := by
  delta lit0t1_0 lit0t0_977.match_1
  beta_reduce
  iterate 128
    refine arm_of (p := finiteWord) ?_ ?_
    · with_reducible (conv => lhs; arg 1; whnf)
      first
        | delta lit0t0_0.match_1
        | delta lit0t0_191.match_1
        | delta lit0t0_388.match_1
        | delta lit0t0_585.match_1
        | delta lit0t0_782.match_1
        | delta lit0t0_977.match_1
      beta_reduce
      iterate 128 refine arm_of (p := finiteWord) rfl ?_
      rfl
  rfl

set_option maxHeartbeats 0 in
/-- Every word of table part 1 is finite: each of its 128 rows of 128 words, arm by arm. -/
theorem part1 (i : Nat) : finiteWord (lit0t1_1 i) = true := by
  delta lit0t1_1 lit0t0_977.match_1
  beta_reduce
  iterate 128
    refine arm_of (p := finiteWord) ?_ ?_
    · with_reducible (conv => lhs; arg 1; whnf)
      first
        | delta lit0t0_0.match_1
        | delta lit0t0_191.match_1
        | delta lit0t0_388.match_1
        | delta lit0t0_585.match_1
        | delta lit0t0_782.match_1
        | delta lit0t0_977.match_1
      beta_reduce
      iterate 128 refine arm_of (p := finiteWord) rfl ?_
      rfl
  rfl

set_option maxHeartbeats 0 in
/-- Every word of table part 2 is finite: each of its 128 rows of 128 words, arm by arm. -/
theorem part2 (i : Nat) : finiteWord (lit0t1_2 i) = true := by
  delta lit0t1_2 lit0t0_977.match_1
  beta_reduce
  iterate 128
    refine arm_of (p := finiteWord) ?_ ?_
    · with_reducible (conv => lhs; arg 1; whnf)
      first
        | delta lit0t0_0.match_1
        | delta lit0t0_191.match_1
        | delta lit0t0_388.match_1
        | delta lit0t0_585.match_1
        | delta lit0t0_782.match_1
        | delta lit0t0_977.match_1
      beta_reduce
      iterate 128 refine arm_of (p := finiteWord) rfl ?_
      rfl
  rfl

set_option maxHeartbeats 0 in
/-- Every word of table part 3 is finite: each of its 128 rows of 128 words, arm by arm. -/
theorem part3 (i : Nat) : finiteWord (lit0t1_3 i) = true := by
  delta lit0t1_3 lit0t0_977.match_1
  beta_reduce
  iterate 128
    refine arm_of (p := finiteWord) ?_ ?_
    · with_reducible (conv => lhs; arg 1; whnf)
      first
        | delta lit0t0_0.match_1
        | delta lit0t0_191.match_1
        | delta lit0t0_388.match_1
        | delta lit0t0_585.match_1
        | delta lit0t0_782.match_1
        | delta lit0t0_977.match_1
      beta_reduce
      iterate 128 refine arm_of (p := finiteWord) rfl ?_
      rfl
  rfl

set_option maxHeartbeats 0 in
/-- Every word of table part 4 is finite: each of its 128 rows of 128 words, arm by arm. -/
theorem part4 (i : Nat) : finiteWord (lit0t1_4 i) = true := by
  delta lit0t1_4 lit0t0_977.match_1
  beta_reduce
  iterate 128
    refine arm_of (p := finiteWord) ?_ ?_
    · with_reducible (conv => lhs; arg 1; whnf)
      first
        | delta lit0t0_0.match_1
        | delta lit0t0_191.match_1
        | delta lit0t0_388.match_1
        | delta lit0t0_585.match_1
        | delta lit0t0_782.match_1
        | delta lit0t0_977.match_1
      beta_reduce
      iterate 128 refine arm_of (p := finiteWord) rfl ?_
      rfl
  rfl

set_option maxHeartbeats 0 in
/-- Every word of table part 5 is finite: each of its 128 rows of 128 words, arm by arm. -/
theorem part5 (i : Nat) : finiteWord (lit0t1_5 i) = true := by
  delta lit0t1_5 lit0t0_977.match_1
  beta_reduce
  iterate 128
    refine arm_of (p := finiteWord) ?_ ?_
    · with_reducible (conv => lhs; arg 1; whnf)
      first
        | delta lit0t0_0.match_1
        | delta lit0t0_191.match_1
        | delta lit0t0_388.match_1
        | delta lit0t0_585.match_1
        | delta lit0t0_782.match_1
        | delta lit0t0_977.match_1
      beta_reduce
      iterate 128 refine arm_of (p := finiteWord) rfl ?_
      rfl
  rfl

set_option maxHeartbeats 0 in
/-- Every word of table part 6 is finite: each of its 128 rows of 128 words, arm by arm. -/
theorem part6 (i : Nat) : finiteWord (lit0t1_6 i) = true := by
  delta lit0t1_6 lit0t0_977.match_1
  beta_reduce
  iterate 128
    refine arm_of (p := finiteWord) ?_ ?_
    · with_reducible (conv => lhs; arg 1; whnf)
      first
        | delta lit0t0_0.match_1
        | delta lit0t0_191.match_1
        | delta lit0t0_388.match_1
        | delta lit0t0_585.match_1
        | delta lit0t0_782.match_1
        | delta lit0t0_977.match_1
      beta_reduce
      iterate 128 refine arm_of (p := finiteWord) rfl ?_
      rfl
  rfl

set_option maxHeartbeats 0 in
/-- Every word of table part 7 is finite: each of its 128 rows of 128 words, arm by arm. -/
theorem part7 (i : Nat) : finiteWord (lit0t1_7 i) = true := by
  delta lit0t1_7 lit0t0_977.match_1
  beta_reduce
  iterate 128
    refine arm_of (p := finiteWord) ?_ ?_
    · with_reducible (conv => lhs; arg 1; whnf)
      first
        | delta lit0t0_0.match_1
        | delta lit0t0_191.match_1
        | delta lit0t0_388.match_1
        | delta lit0t0_585.match_1
        | delta lit0t0_782.match_1
        | delta lit0t0_977.match_1
      beta_reduce
      iterate 128 refine arm_of (p := finiteWord) rfl ?_
      rfl
  rfl

end Cert.Proof.Noise
-- ==== Proof.Noise.lean ====
/-
  The noise table: the kernel's program and the reference's print the same words, and each of them is a real number.
-/
module

public import proofs.«01_k».proof.Proof.Table
public import proofs.«01_k».proof.ReferenceIdeal
public import proofs.«01_k».proof.Proof.Algebra

@[expose] public section

set_option maxRecDepth 16384

noncomputable section

namespace Cert.Proof.Noise

open Idealize.ShloMosaic Cert.KernelIdeal

/-- The two programs' noise tables are one table. -/
theorem lit_eq : Cert.KernelIdeal.lit0 = Cert.ReferenceIdeal.lit0 := by rfl

/-- A word with such an exponent denotes a real number. -/
theorem real_of_finiteWord {b : BitVec 32} (h : finiteWord b = true) : ∃ r : ℝ, Ideal.ofBits .f32 b = (r : EReal) := by
  refine Algebra.ofBits_real b fun he => ?_
  have h1 : b.toNat / 8388608 % 256 = 255 := by
    have h2 := he
    rw [BitVec.extractLsb'_toNat, Nat.shiftRight_eq_div_pow] at h2
    exact h2
  have h3 : finiteWord b = false := by
    show (!Nat.beq (b.toNat / 8388608 % 256) 255) = false
    rw [h1]
    rfl
  rw [h3] at h
  exact absurd h (by decide)

/-- Every entry of the noise table denotes a real number. -/
theorem real_lit (i : Fin 131072) : ∃ r : ℝ, Ideal.ofBits .f32 (lit0 i) = (r : EReal) := by
  refine real_of_finiteWord ?_
  obtain ⟨i, hi⟩ := i
  show finiteWord (lit0t i) = true
  delta lit0t lit0t.match_1
  beta_reduce
  exact arm_of (part0 i) <| arm_of (part1 i) <| arm_of (part2 i) <| arm_of (part3 i) <| arm_of (part4 i) <|
    arm_of (part5 i) <| arm_of (part6 i) <| arm_of (part7 i) rfl

end Cert.Proof.Noise

end
-- ==== Proof.Agree.lean ====
/-
  The two arrangements of the weighted sum agree wherever a row's greatest routing logit is finite.
-/
module

public import proofs.«01_k».proof.Proof.Noise
public import proofs.«01_k».proof.Proof.Spec

@[expose] public section

set_option maxRecDepth 16384

noncomputable section

namespace Cert.Proof.Spec

open Idealize.ShloMosaic Idealize.ShloMosaic.Pointwise Cert.KernelIdeal

/-- Every entry of the noise is a real number. -/
theorem real_noise (i : S8192x16.Idx) : ∃ r : ℝ, noise i = (r : EReal) := Noise.real_lit _

/-- The reference's table is that noise too. -/
theorem noise_eq : (fun i : S8192x16.Idx => (FloatOps.ofBits .f32 (Cert.ReferenceIdeal.lit0 (S8192x16.rowMajor i)) : Ideal .f32)) = noise :=
  congrArg (fun f : Fin 131072 → BitVec 32 => fun i : S8192x16.Idx => (FloatOps.ofBits .f32 (f (S8192x16.rowMajor i)) : Ideal .f32))
    Noise.lit_eq.symm

/-- Where a row's greatest logit is finite, the two arrangements of its weighted sum agree. -/
theorem together_eq_apart (x : FVec Ideal S8192x2048 .f32) (rw1 : FVec Ideal S2048x64 .f32) (rb1 : FVec Ideal S64 .f32)
    (rw2 : FVec Ideal S64x16 .f32) (rb2 : FVec Ideal S16 .f32) (ew : FVec Ideal S16x2048x2 .f32) (eb : FVec Ideal S16x2 .f32)
    (b : Fin 8192) (c : Fin 2) (hlo : ⊥ < Algebra.greatest (logit x rw1 rb1 rw2 rb2 b))
    (hhi : Algebra.greatest (logit x rw1 rb1 rw2 rb2 b) < ⊤) :
    together x rw1 rb1 rw2 rb2 ew eb noise b c = apart x rw1 rb1 rw2 rb2 ew eb noise b c := by
  choose n hn using fun e : Fin 16 => real_noise (ix2 b e)
  obtain ⟨r, hr⟩ := Algebra.greatest_add_noise _ n hlo hhi
  have hs : score x rw1 rb1 rw2 rb2 noise b = fun e => logit x rw1 rb1 rw2 rb2 b e + (n e : EReal) :=
    funext fun e => congrArg (logit x rw1 rb1 rw2 rb2 b e + ·) (hn e)
  exact Algebra.sum_add_mul_weight _ (fun e => expert x ew b e c) (fun e => eb (ix2 e c)) (hs ▸ hr)

end Cert.Proof.Spec

end
-- ==== Proof.lean ====
/-
  The certificate: the kernel's frames, the reference's, and the equality of the two programs' results over the extended
  reals wherever every row's greatest routing logit is finite.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_routing_defined
public import proofs.«01_k».proof.Proof.Final
public import proofs.«01_k».proof.Proof.Reference
public import proofs.«01_k».proof.Proof.Agree
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.Pointwise Idealize.SL.Sem

/-- At arguments the precondition holds of, the reference's result is the kernel's, transposed. -/
theorem results_eq (x : FVec Ideal KernelIdeal.S8192x2048 .f32) (rw1 : FVec Ideal KernelIdeal.S2048x64 .f32)
    (rb1 : FVec Ideal KernelIdeal.S64 .f32) (rw2 : FVec Ideal KernelIdeal.S64x16 .f32) (rb2 : FVec Ideal KernelIdeal.S16 .f32)
    (ew : FVec Ideal KernelIdeal.S16x2048x2 .f32) (eb : FVec Ideal KernelIdeal.S16x2 .f32)
    (h : Cert.Pre_routing_defined.fn (F := Ideal) x rw1 rb1 rw2 rb2 ew eb = fun _ => 1#1) :
    Reference.mixed x ew eb (Reference.weights (Reference.scores x rw1 rb1 rw2 rb2 Spec.noise)) =
      transpose KernelIdeal.S8192x2 [1, 0] (Value.result x rw1 rb1 rw2 rb2 ew eb Spec.noise)
        KernelIdeal.Gen.transposes_S2x8192_S8192x2_1_0 := by
  funext j
  rw [eq_ix2 j]
  obtain ⟨hlo, hhi⟩ := Reference.bounds_of_pre x rw1 rb1 rw2 rb2 ew eb h (j 0)
  refine (Reference.reference_apply x rw1 rb1 rw2 rb2 ew eb Spec.noise (j 0) (j 1)).trans ?_
  refine (Spec.together_eq_apart x rw1 rb1 rw2 rb2 ew eb (j 0) (j 1) hlo hhi).trans ?_
  idx_vars j
  pointwise
  rfl

/-- The reference runs from any memory, leaves its arguments unchanged, and ends with every counter at zero: it declares none. -/
theorem reference_frame : Cert.quiescent_ReferenceIdeal := fun m g _ =>
  (θ_run _ _ _).mono (fun r h => ⟨fun c => (h c).2, sem_eq_zero_of_no_sems (by decide) r.2⟩) (Cert.ReferenceIdeal.Value.run m g)

/-- From memories that agree on the arguments and meet the precondition, kernel and reference end with the same result. -/
theorem algebraic : Cert.algebraic_KernelIdeal_ReferenceIdeal_pre_routing_defined := by
  intro m g m' g' hpre hagree
  refine ⟨_, Value.run m g, (θ_run _ _ _).mono (fun r h c => ⟨(h c).1.trans ?_, (h c).2⟩) (Cert.ReferenceIdeal.Value.run m' g')⟩
  obtain ⟨h0, h1, h2, h3, h4, h5, h6⟩ := hagree c
  refine (Reference.result_eq m' c).trans ?_
  rw [h0, h1, h2, h3, h4, h5, h6]
  refine Eq.trans ?_ (results_eq _ _ _ _ _ _ _ (hpre c))
  exact congrArg (fun n => Reference.mixed _ _ _ (Reference.weights (Reference.scores _ _ _ _ _ n))) Spec.noise_eq

/-- Every claim of the certificate. -/
theorem claim : Cert.Claim :=
  ⟨Cert.Kernel.Gen.facts, Cert.KernelIdeal.Gen.facts, Cert.ReferenceIdeal.Gen.facts, Cert.Pre_routing_defined.Gen.facts,
    fun m g _ => Cert.Kernel.Gen.frame m g, fun m g _ => Cert.KernelIdeal.Gen.frame m g, fun m g _ => Cert.KernelIdeal.Gen.frame m g,
    reference_frame, fun m g _ => reference_frame m g trivial, trivial, algebraic⟩

end Cert.Proof

end
